-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 × IVec S_ 1 × IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : FVec F S64 .f32 := Host.absf main_arg2
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  (main_v3, main_v7, main_v11)
-- ==== Kernel.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S1x64 : Shape := ⟨2, ![1, 64]⟩
abbrev S32768x2 : Shape := ⟨2, ![32768, 2]⟩
abbrev S1024x4096 : Shape := ⟨2, ![1024, 4096]⟩
abbrev S1024x2 : Shape := ⟨2, ![1024, 2]⟩
abbrev S1024x64 : Shape := ⟨2, ![1024, 64]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S1x64, .f32⟩
  | .hbm, ⟨5, _⟩ => ⟨S32768x2, .i32⟩
  | .hbm, ⟨6, _⟩ => ⟨S32768x2, .f32⟩
  | .local _ .vmem, ⟨0, _⟩ => ⟨S1024x4096, .f32⟩
  | .local _ .vmem, ⟨1, _⟩ => ⟨S1024x4096, .f32⟩
  | .local _ .vmem, ⟨2, _⟩ => ⟨S4096x64, .f32⟩
  | .local _ .vmem, ⟨3, _⟩ => ⟨S1x64, .f32⟩
  | .local _ .vmem, ⟨4, _⟩ => ⟨S1024x2, .i32⟩
  | .local _ .vmem, ⟨5, _⟩ => ⟨S1024x2, .i32⟩
  | .local _ .vmem, ⟨6, _⟩ => ⟨S1024x2, .f32⟩
  | .local _ .vmem, ⟨7, _⟩ => ⟨S1024x2, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S32768x2 : Shape := ⟨2, ![32768, 2]⟩
abbrev S_ : Shape := ⟨0, ![]⟩
abbrev S32768 : Shape := ⟨1, ![32768]⟩
abbrev S32768x1 : Shape := ⟨2, ![32768, 1]⟩

abbrev nBuf : Space → Nat
  | .hbm => 24
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S32768x2, .f32⟩
  | .hbm, ⟨9, _⟩ => ⟨S32768x2, .i32⟩
  | .hbm, ⟨10, _⟩ => ⟨S_, .f32⟩
  | .hbm, ⟨11, _⟩ => ⟨S32768, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768x1, .f32⟩
  | .hbm, ⟨16, _⟩ => ⟨S32768x2, .f32⟩
  | .hbm, ⟨17, _⟩ => ⟨S32768x2, .f32⟩
  | .hbm, ⟨18, _⟩ => ⟨S32768x2, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S32768x2, .f32⟩
  | .hbm, ⟨23, _⟩ => ⟨S32768x2, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Row.lean ====
/-
  ONE ROW OF LOGITS, `g : Fin 64 → EReal`: the two experts a row chooses. `TopTwo g p q` says that `p` is the first
  position of the greatest entry and `q` the first position of the greatest entry other than the one at `p`. Every row
  has such a pair (`exists_topTwo`); the kernel's rounds find it (the greatest entry by a fold of `max` from `⊥`, its
  position by a fold of the signed minimum over the positions that hold it, the entry at that position replaced by `⊥`, and
  the same again); and a stable sort of the positions by "greater first" begins with it (`TopTwo.sortedFrom_eq`).
-/
module

public import Idealize.ShloMosaic.Lib.SortPrefix
public import Idealize.ShloMosaic.Lib.SortNet.Extract
public import Idealize.ShloMosaic.PureOps.Reduce
public import Idealize.ShloMosaic.PureOps.Ideal.Laws

@[expose] public section

noncomputable section

namespace Cert.Row

open Idealize.ShloMosaic

/-- The word `0xFF800000` is `⊥`. -/
theorem negInf_eq : Ideal.ofBits FTy.f32 0xFF800000#32 = (⊥ : EReal) := by
  simp [Ideal.ofBits, Ideal.ieee]

/-- `p` is the first position of the greatest entry of `g`, and `q` the first position of the greatest among the others. -/
structure TopTwo (g : Fin 64 → EReal) (p q : Fin 64) : Prop where
  ne : q ≠ p
  le_fst : ∀ k, g k ≤ g p
  lt_fst : ∀ k, k < p → g k < g p
  le_snd : ∀ k, k ≠ p → g k ≤ g q
  lt_snd : ∀ k, k ≠ p → k < q → g k < g q

/-- Among a nonempty set of positions there is a first one that holds the set's greatest entry. -/
theorem exists_first_max (g : Fin 64 → EReal) (S : Finset (Fin 64)) (hS : S.Nonempty) :
    ∃ p ∈ S, (∀ k ∈ S, g k ≤ g p) ∧ ∀ k ∈ S, k < p → g k < g p := by
  classical
  obtain ⟨a, ha, hmax⟩ := S.exists_max_image g hS
  have hne : (S.filter fun k => g k = g a).Nonempty := ⟨a, by simp [ha]⟩
  have hp := Finset.mem_filter.mp ((S.filter fun k => g k = g a).min'_mem hne)
  refine ⟨_, hp.1, fun k hk => hp.2.symm ▸ hmax k hk, fun k hk hlt => ?_⟩
  refine lt_of_le_of_ne (hp.2.symm ▸ hmax k hk) fun he => ?_
  exact absurd ((S.filter fun k => g k = g a).min'_le k (Finset.mem_filter.mpr ⟨hk, he.trans hp.2⟩)) (not_le.mpr hlt)

/-- Every row has its two positions. -/
theorem exists_topTwo (g : Fin 64 → EReal) : ∃ p q, TopTwo g p q := by
  obtain ⟨p, -, hp1, hp2⟩ := exists_first_max g Finset.univ Finset.univ_nonempty
  have hne : (Finset.univ.erase p).Nonempty := by
    rw [← Finset.card_pos, Finset.card_erase_of_mem (Finset.mem_univ p)]
    decide
  obtain ⟨q, hq, hq1, hq2⟩ := exists_first_max g (Finset.univ.erase p) hne
  have hm : ∀ k, k ≠ p → k ∈ Finset.univ.erase p := fun k hk => Finset.mem_erase.mpr ⟨hk, Finset.mem_univ k⟩
  exact ⟨p, q, (Finset.mem_erase.mp hq).1, fun k => hp1 k (Finset.mem_univ k), fun k => hp2 k (Finset.mem_univ k),
    fun k hk => hq1 k (hm k hk), fun k hk => hq2 k (hm k hk)⟩

/-! ## The kernel's rounds -/

/-- The fold of `max` from `⊥` is the entry no other exceeds. -/
theorem fold_max_eq {n : Nat} (f : Fin n → EReal) (p : Fin n) (hp : ∀ k, f k ≤ f p) :
    Finset.univ.fold max ⊥ f = f p :=
  le_antisymm ((Finset.fold_max_le _).mpr ⟨bot_le, fun k _ => hp k⟩) ((Finset.le_fold_max _).mpr (Or.inr ⟨p, Finset.mem_univ p, le_refl _⟩))

/-- The signed minimum of two words is the lesser of them as numbers. -/
theorem toInt_minsi (x y : BitVec 32) : (IntOp.minsi x y).toInt = min x.toInt y.toInt := SortNet.toInt_minsi x y

/-- The signed minimum over the positions that satisfy `c`, a greater word standing for the others, is the first such position. -/
theorem fold_minsi_eq (c : Fin 64 → Prop) [DecidablePred c] (p : Fin 64) (hc : c p) (hp : ∀ k, c k → p ≤ k) :
    (Finset.univ.fold IntOp.minsi 2147483647#32 fun k : Fin 64 => if c k then BitVec.ofNat 32 k.val else 1073741824#32)
      = BitVec.ofNat 32 p.val := by
  have small : ∀ k : Fin 64, (BitVec.ofNat 32 k.val).toInt = (k.val : Int) := by decide
  apply BitVec.eq_of_toInt_eq
  have h := Finset.fold_hom (op := IntOp.minsi) (op' := (min : Int → Int → Int)) (s := Finset.univ)
    (b := 2147483647#32) (f := fun k : Fin 64 => if c k then BitVec.ofNat 32 k.val else 1073741824#32)
    (m := BitVec.toInt) toInt_minsi
  rw [← h, small]
  refine le_antisymm ((Finset.fold_min_le _).mpr (Or.inr ⟨p, Finset.mem_univ p, ?_⟩)) ((Finset.le_fold_min _).mpr ⟨?_, fun k _ => ?_⟩)
  · rw [if_pos hc, small]
  · have := p.isLt
    show (p.val : Int) ≤ 2147483647
    omega
  · by_cases hk : c k
    · rw [if_pos hk, small]
      have := hp k hk
      exact_mod_cast this
    · rw [if_neg hk]
      have := p.isLt
      show (p.val : Int) ≤ 1073741824
      omega

/-- The row with the entry at `p` replaced by `⊥`. -/
def masked (g : Fin 64 → EReal) (p : Fin 64) (k : Fin 64) : EReal := if k = p then ⊥ else g k

variable {g : Fin 64 → EReal} {p q : Fin 64}

/-- The first round's greatest entry. -/
theorem TopTwo.fold_max_fst (h : TopTwo g p q) : Finset.univ.fold max ⊥ g = g p := fold_max_eq g p h.le_fst

/-- The first round's position. -/
theorem TopTwo.fold_minsi_fst (h : TopTwo g p q) :
    (Finset.univ.fold IntOp.minsi 2147483647#32 fun k : Fin 64 => if g k = g p then BitVec.ofNat 32 k.val else 1073741824#32)
      = BitVec.ofNat 32 p.val :=
  fold_minsi_eq (fun k => g k = g p) p rfl fun k hk => not_lt.mp fun hlt => (h.lt_fst k hlt).ne hk

/-- The second round's greatest entry. -/
theorem TopTwo.fold_max_snd (h : TopTwo g p q) : Finset.univ.fold max ⊥ (masked g p) = g q := by
  have hq : masked g p q = g q := if_neg h.ne
  rw [← hq]
  refine fold_max_eq _ q fun k => ?_
  rw [hq]
  unfold masked
  split
  · exact bot_le
  · next hk => exact h.le_snd k hk

/-- The second round's position, in a row whose chosen entry is not `⊥` itself. -/
theorem TopTwo.fold_minsi_snd (h : TopTwo g p q) (hbot : g q ≠ ⊥) :
    (Finset.univ.fold IntOp.minsi 2147483647#32 fun k : Fin 64 =>
        if masked g p k = g q then BitVec.ofNat 32 k.val else 1073741824#32) = BitVec.ofNat 32 q.val := by
  refine fold_minsi_eq (fun k => masked g p k = g q) q (if_neg h.ne) fun k hk => not_lt.mp fun hlt => ?_
  by_cases hkp : k = p
  · subst hkp
    exact hbot (((if_pos rfl : masked g k k = ⊥).symm.trans hk).symm)
  · exact (h.lt_snd k hkp hlt).ne ((if_neg hkp : masked g p k = g k).symm.trans hk)

/-! ## The stable sort -/

/-- `k` sorts before `k'` when its entry is greater. -/
def greater (g : Fin 64 → EReal) (k k' : Fin 64) : Bool := decide (g k' < g k)

/-- `k` sorts before `k'` when its entry is greater, or equal and at an earlier position. -/
def greaterThenEarlier (g : Fin 64 → EReal) (k k' : Fin 64) : Bool :=
  decide (g k' < g k) || (decide (g k = g k') && decide (k < k'))

/-- Positions listed in ascending order are sorted alike by both: a stable sort keeps equal entries in their order. -/
theorem stableSort_greater (g : Fin 64 → EReal) (l : List (Fin 64)) (hl : l.Pairwise (· < ·)) :
    stableSort (greater g) l = stableSort (greaterThenEarlier g) l := by
  induction l with
  | nil => rfl
  | cons a l ih =>
    rw [List.pairwise_cons] at hl
    unfold stableSort
    rw [ih hl.2]
    refine insertBefore_congr _ _ a _ fun b hb => ?_
    have hab : ¬ b < a := (hl.1 b ((perm_stableSort _ l).mem_iff.mp hb)).not_gt
    simp [greater, greaterThenEarlier, hab]

/-- Two orders that sort the positions alike have the same position at every place. -/
theorem sortedFrom_of_sortPositions {n : Nat} (R R' : Fin n → Fin n → Bool) (h : sortPositions n R = sortPositions n R') :
    sortedFrom R = sortedFrom R' := by
  funext i
  unfold sortedFrom
  rw [List.get_of_eq h]
  rfl

/-- The sort's positions under both are the same. -/
theorem sortedFrom_greater (g : Fin 64 → EReal) : sortedFrom (greater g) = sortedFrom (greaterThenEarlier g) :=
  sortedFrom_of_sortPositions _ _ (stableSort_greater g _ (List.pairwise_lt_finRange 64))

/-- "Greater, then earlier" is a strict total order. -/
theorem strictTotal_greaterThenEarlier (g : Fin 64 → EReal) : StrictTotalBefore (greaterThenEarlier g) := by
  refine StrictTotalBefore.of_key_then_position (fun a b : EReal => decide (b < a)) g (fun a => by simp)
    (fun a b c hab hbc => ?_) fun a b => ?_
  · simp only [decide_eq_true_eq] at hab hbc ⊢
    exact hbc.trans hab
  · simp only [decide_eq_true_eq]
    rcases lt_trichotomy a b with h | h | h
    · exact Or.inr (Or.inr h)
    · exact Or.inr (Or.inl h)
    · exact Or.inl h

/-- The sort begins with the row's two positions. -/
theorem TopTwo.sortedFrom_eq (h : TopTwo g p q) (i : Fin 2) :
    sortedFrom (greater g) (i.castLE (by decide)) = ![p, q] i := by
  rw [sortedFrom_greater]
  have out : ∀ a b : Fin 64, g a ≤ g b → (a < b → g a < g b) → greaterThenEarlier g a b = false := fun a b h1 h2 => by
    simp only [greaterThenEarlier, Bool.or_eq_false_iff, Bool.and_eq_false_iff, decide_eq_false_iff_not, not_lt]
    refine ⟨h1, ?_⟩
    by_cases he : g a = g b
    · exact Or.inr (not_lt.mp fun hlt => (h2 hlt).ne he)
    · exact Or.inl he
  refine (strictTotal_greaterThenEarlier g).sortedFrom_eq_of_prefix (by decide) ![p, q] ?_ ?_ ?_ i
  · intro a b hab
    match a, b with
    | ⟨0, _⟩, ⟨0, _⟩ => rfl
    | ⟨1, _⟩, ⟨1, _⟩ => rfl
    | ⟨0, _⟩, ⟨1, _⟩ => exact absurd (Eq.symm hab) h.ne
    | ⟨1, _⟩, ⟨0, _⟩ => exact absurd hab h.ne
  · intro a b hab
    match a, b with
    | ⟨0, _⟩, ⟨0, _⟩ => exact absurd hab (lt_irrefl _)
    | ⟨1, _⟩, ⟨1, _⟩ => exact absurd hab (lt_irrefl _)
    | ⟨0, _⟩, ⟨1, _⟩ => exact out q p (h.le_fst q) (h.lt_fst q)
    | ⟨1, _⟩, ⟨0, _⟩ => exact absurd (Fin.lt_def.mp hab) (by show ¬ 1 < 0; decide)
  · intro a k hk
    have hkp : k ≠ p := fun e => hk 0 e.symm
    match a with
    | ⟨0, _⟩ => exact out k p (h.le_fst k) (h.lt_fst k)
    | ⟨1, _⟩ => exact out k q (h.le_snd k hkp) (h.lt_snd k hkp)

end Cert.Row

end
-- ==== Proof.Block.lean ====
/-
  ONE BLOCK OF THE KERNEL, read row by row. The body computes from a block of 1024 rows the logits (`row`), and stores for
  each row two expert numbers and two scores. If `p` and `q` are the row's two positions (`Row.TopTwo`) and the row's entry
  at `q` is not `⊥`, it stores the words `p`, `q` and the scores `logistic (g p - g q)`, `1 - logistic (g p - g q)`.
-/
module

public import proofs.«01_k».proof.Proof.Gen.KernelIdeal.Value
public import Idealize.ShloMosaic.Lib.Pointwise
public import proofs.«01_k».proof.Proof.Row

@[expose] public section

set_option maxRecDepth 16384

noncomputable section

namespace Cert.Block

open Cert.KernelIdeal Cert.KernelIdeal.Gen Idealize.ShloMosaic

variable (x : Vec Ideal S1024x4096 .f32) (w : Vec Ideal S4096x64 .f32) (b : Vec Ideal S1x64 .f32)

/-- The logits of row `r` of the block. -/
def row (r : Fin 1024) (k : Fin 64) : EReal := (∑ d : Fin 4096, x (ix2 r d) * w (ix2 d k)) + b (ix2 0 k)

/-- The body's logits are `row`'s. -/
theorem pay1_apply (r : Fin 1024) (k : Fin 64) : k0_pay1 (F := Ideal) x w b (ix2 r k) = row x w b r k := by
  pointwise [k0_pay1]
  rfl

variable {x w b}
variable {r : Fin 1024} {p q : Fin 64}

/-- The first round's greatest entry. -/
theorem pay2_apply (h : Row.TopTwo (row x w b r) p q) : k0_pay2 (F := Ideal) x w b (ix2 r 0) = row x w b r p := by
  have e := pay1_apply x w b r
  unfold k0_pay2
  revert e
  generalize k0_pay1 (F := Ideal) x w b = g
  intro e
  pointwise
  simp only [e, Row.negInf_eq]
  exact h.fold_max_fst

/-- The first round's position. -/
theorem pay3_apply (h : Row.TopTwo (row x w b r) p q) :
    k0_pay3 (F := Ideal) x w b (ix2 r 0) = BitVec.ofNat 32 p.val := by
  have e := pay1_apply x w b r
  have e2 := pay2_apply h
  unfold k0_pay3
  revert e e2
  generalize k0_pay1 (F := Ideal) x w b = g
  generalize k0_pay2 (F := Ideal) x w b = v
  intro e e2
  pointwise
  simp only [e, e2]
  exact h.fold_minsi_fst

/-- The row with its first choice taken out. -/
theorem pay4_apply (h : Row.TopTwo (row x w b r) p q) (k : Fin 64) :
    k0_pay4 (F := Ideal) x w b (ix2 r k) = Row.masked (row x w b r) p k := by
  have e := pay1_apply x w b r
  have e3 := pay3_apply h
  unfold k0_pay4
  revert e e3
  generalize k0_pay1 (F := Ideal) x w b = g
  generalize k0_pay3 (F := Ideal) x w b = v
  intro e e3
  pointwise
  simp only [e, e3, Row.negInf_eq]
  have hw : ∀ k p : Fin 64, IntOp.cmpi .eq (BitVec.ofNat 32 k.val) (BitVec.ofNat 32 p.val) = BitVec.ofBool (decide (k = p)) := by
    decide +kernel
  rw [hw]
  unfold Row.masked
  by_cases hk : k = p
  · rw [if_pos hk, decide_eq_true hk]; rfl
  · rw [if_neg hk, decide_eq_false hk]; rfl

/-- The second round's greatest entry. -/
theorem pay5_apply (h : Row.TopTwo (row x w b r) p q) : k0_pay5 (F := Ideal) x w b (ix2 r 0) = row x w b r q := by
  have e := pay4_apply h
  unfold k0_pay5
  revert e
  generalize k0_pay4 (F := Ideal) x w b = g
  intro e
  pointwise
  simp only [e, Row.negInf_eq]
  exact h.fold_max_snd

/-- The two expert numbers the block stores for a row. -/
theorem pay6_apply (h : Row.TopTwo (row x w b r) p q) (hbot : row x w b r q ≠ ⊥) (k : Fin 2) :
    k0_pay6 (F := Ideal) x w b (ix2 r k) = BitVec.ofNat 32 (![p, q] k).val := by
  have e3 := pay3_apply h
  have e4 := pay4_apply h
  have e5 := pay5_apply h
  unfold k0_pay6
  revert e3 e4 e5
  generalize k0_pay3 (F := Ideal) x w b = g
  generalize k0_pay4 (F := Ideal) x w b = v
  generalize k0_pay5 (F := Ideal) x w b = u
  intro e3 e4 e5
  pointwise
  simp only [e4, e5]
  match k with
  | ⟨0, _⟩ => exact e3
  | ⟨1, _⟩ => exact h.fold_minsi_snd hbot

/-- The two scores the block stores for a row. -/
theorem pay7_apply (h : Row.TopTwo (row x w b r) p q) (k : Fin 2) :
    k0_pay7 (F := Ideal) x w b (ix2 r k)
      = ![Ideal.logistic (row x w b r p - row x w b r q), 1 - Ideal.logistic (row x w b r p - row x w b r q)] k := by
  have e2 := pay2_apply h
  have e5 := pay5_apply h
  unfold k0_pay7
  revert e2 e5
  generalize k0_pay2 (F := Ideal) x w b = v
  generalize k0_pay5 (F := Ideal) x w b = u
  intro e2 e5
  rw [← e2, ← e5]
  pointwise
  match k with
  | ⟨0, _⟩ => rfl
  | ⟨1, _⟩ => rfl

end Cert.Block

end
-- ==== Proof.Softmax.lean ====
/-
  THE SOFTMAX OF TWO REAL NUMBERS, the greater first: its first component is the logistic function of the difference, its
  second is one minus that.
-/
module

public import Idealize.ShloMosaic.PureOps.Ideal.Laws

@[expose] public section

noncomputable section

namespace Cert.Softmax

open Idealize.ShloMosaic

/-- The first component: `1 / (1 + exp (y - x))`. -/
theorem softmax_fst (x y : ℝ) :
    Ideal.div (Ideal.exp ((x : EReal) - x)) (Ideal.exp ((x : EReal) - x) + Ideal.exp ((y : EReal) - x))
      = Ideal.logistic ((x : EReal) - y) := by
  have e1 : (x : EReal) - x = ((0 : ℝ) : EReal) := by rw [← EReal.coe_sub, sub_self]
  have e2 : (y : EReal) - x = ((y - x : ℝ) : EReal) := (EReal.coe_sub y x).symm
  have e3 : (x : EReal) - y = ((x - y : ℝ) : EReal) := (EReal.coe_sub x y).symm
  have hpos : (Real.exp 0 + Real.exp (y - x) : ℝ) ≠ 0 := (add_pos (Real.exp_pos _) (Real.exp_pos _)).ne'
  rw [e1, e2, e3, Ideal.exp_coe, Ideal.exp_coe, ← EReal.coe_add, Ideal.div_coe hpos, ← EReal.coe_mul, Ideal.logistic_coe,
    EReal.coe_eq_coe_iff, Real.exp_zero, neg_sub]
  ring

/-- The second component: what is left of one. -/
theorem softmax_snd (x y : ℝ) :
    Ideal.div (Ideal.exp ((y : EReal) - x)) (Ideal.exp ((x : EReal) - x) + Ideal.exp ((y : EReal) - x))
      = (1 : EReal) - Ideal.logistic ((x : EReal) - y) := by
  have e1 : (x : EReal) - x = ((0 : ℝ) : EReal) := by rw [← EReal.coe_sub, sub_self]
  have e2 : (y : EReal) - x = ((y - x : ℝ) : EReal) := (EReal.coe_sub y x).symm
  have e3 : (x : EReal) - y = ((x - y : ℝ) : EReal) := (EReal.coe_sub x y).symm
  have hpos : (Real.exp 0 + Real.exp (y - x) : ℝ) ≠ 0 := (add_pos (Real.exp_pos _) (Real.exp_pos _)).ne'
  have hpos' : (1 + Real.exp (y - x) : ℝ) ≠ 0 := (add_pos one_pos (Real.exp_pos _)).ne'
  rw [e1, e2, e3, Ideal.exp_coe, Ideal.exp_coe, ← EReal.coe_add, Ideal.div_coe hpos, ← EReal.coe_mul, Ideal.logistic_coe,
    ← EReal.coe_one, ← EReal.coe_sub, EReal.coe_eq_coe_iff, Real.exp_zero, neg_sub]
  field_simp
  ring

end Cert.Softmax

end
-- ==== Proof.RefValue.lean ====
/-
  THE REFERENCE'S RESULTS, read at an index. For a row of logits `logits x W b r` (the reference's own sum and bias) with its
  two positions `p` and `q` (`Row.TopTwo`), the reference's indices are the words `p`, `q`; and if the row is of real numbers,
  its scores are `logistic (g p - g q)` and `1 - logistic (g p - g q)`.
-/
module

public import proofs.«01_k».proof.Proof.Gen.ReferenceIdeal.Read
public import Idealize.ShloMosaic.Lib.Pointwise
public import proofs.«01_k».proof.Proof.Row
public import proofs.«01_k».proof.Proof.Softmax

@[expose] public section

set_option maxRecDepth 16384

noncomputable section

namespace Cert.RefValue

open Cert.ReferenceIdeal Cert.ReferenceIdeal.Gen Cert.ReferenceIdeal.Read Idealize.ShloMosaic

variable (x : FVec Ideal S32768x4096 .f32) (W : FVec Ideal S64x4096 .f32) (b : FVec Ideal S64 .f32)

/-- The logits of row `r`. -/
def logits (r : Fin 32768) (k : Fin 64) : EReal := (∑ d : Fin 4096, x (ix2 r d) * W (ix2 k d)) + b (ix1 k)

/-- The reference's logits are `logits`'. -/
theorem val_main_v4_eq (r : Fin 32768) (k : Fin 64) : val_main_v4 (F := Ideal) x W b (ix2 r k) = logits x W b r k := by
  pointwise [val_main_v4, val_main_v1, val_main_v0, val_main_v3, val_main_v2]
  rfl

/-- The comparison the reference sorts by, as an order of the extended reals. -/
theorem gt_eq (a b : EReal) : ((FloatOps.cmpfTotal (F := Ideal) (φ := .f32) .gt a b) == 1#1) = decide (b < a) := by
  show (BitVec.ofBool (decide (b < a)) == 1#1) = _
  by_cases h : b < a <;> simp [h]

/-- The place a row's sort takes the entry at place `k` from, for `k` below 2. -/
theorem topK_apply (g : FVec Ideal S32768x64 .f32) (r : Fin 32768) (k : Fin 2) :
    (Host.topK S32768x2 1 (FloatOps.cmpfTotal .gt) g sliceFits_S32768x64_S32768x2).1 (ix2 r k)
        = g (ix2 r (sortedFrom (Row.greater fun k => g (ix2 r k)) (k.castLE (by decide))))
      ∧ (Host.topK S32768x2 1 (FloatOps.cmpfTotal .gt) g sliceFits_S32768x64_S32768x2).2 (ix2 r k)
        = BitVec.ofNat 32 (sortedFrom (Row.greater fun k => g (ix2 r k)) (k.castLE (by decide))).val := by
  have e : Row.greater (fun k => g (ix2 r k))
      = fun k k' => FloatOps.cmpfTotal (F := Ideal) (φ := .f32) .gt (g (ix2 r k)) (g (ix2 r k')) == 1#1 := by
    funext a b
    exact (gt_eq _ _).symm
  have ha : ∀ l c : Fin 64, Shape.Idx.along (s := S32768x64) (ix2 r l) (1 : Fin 2) c = ix2 r c := fun l c => funext fun a =>
    match a with
    | ⟨0, _⟩ => rfl
    | ⟨1, _⟩ => rfl
  rw [e]
  unfold Host.topK Host.sort2
  pointwise
  simp only [ha]
  exact ⟨rfl, rfl⟩

variable {x W b}
variable {r : Fin 32768} {p q : Fin 64}

/-- The reference's two greatest logits. -/
theorem values_apply (h : Row.TopTwo (logits x W b r) p q) (k : Fin 2) :
    val_main_values (F := Ideal) x W b (ix2 r k) = logits x W b r (![p, q] k) := by
  have e := val_main_v4_eq x W b r
  unfold val_main_values
  rw [(topK_apply _ r k).1]
  simp only [e]
  rw [h.sortedFrom_eq k]

/-- The reference's expert numbers. -/
theorem indices_apply (h : Row.TopTwo (logits x W b r) p q) (k : Fin 2) :
    val_main_indices (F := Ideal) x W b (ix2 r k) = BitVec.ofNat 32 (![p, q] k).val := by
  have e := val_main_v4_eq x W b r
  unfold val_main_indices
  rw [(topK_apply _ r k).2]
  simp only [e]
  rw [h.sortedFrom_eq k]

/-- The reference's scores. -/
theorem scores_apply (h : Row.TopTwo (logits x W b r) p q) (u v : ℝ) (hu : logits x W b r p = u) (hv : logits x W b r q = v)
    (k : Fin 2) :
    val_main_v15 (F := Ideal) x W b (ix2 r k)
      = ![Ideal.logistic (logits x W b r p - logits x W b r q), 1 - Ideal.logistic (logits x W b r p - logits x W b r q)] k := by
  have e := values_apply h
  have hle : logits x W b r q ≤ logits x W b r p := h.le_fst q
  revert e
  unfold val_main_v15 val_main_v14 val_main_v13 val_main_v12 val_main_v11 val_main_v10 val_main_v9 val_main_v8 val_main_v7 val_main_v6 val_main_v5
  generalize val_main_values (F := Ideal) x W b = y
  intro e
  pointwise [val_main_cst, val_main_cst_0, val_main_cst_1]
  simp only [Row.negInf_eq]
  have e0 : y (ix2 r 0) = (u : EReal) := (e 0).trans hu
  have e1 : y (ix2 r 1) = (v : EReal) := (e 1).trans hv
  rw [hu, hv] at hle
  have hmax : Finset.univ.fold max ⊥ (fun k : Fin 2 => y (ix2 r k)) = (u : EReal) := by
    rw [← e0]
    refine Row.fold_max_eq (fun k : Fin 2 => y (ix2 r k)) 0 fun k => ?_
    match k with
    | ⟨0, _⟩ => exact le_refl _
    | ⟨1, _⟩ => exact (e1.le.trans hle).trans e0.ge
  rw [hmax, max_eq_right bot_le, Fin.sum_univ_two, e0, e1, hu, hv]
  match k with
  | ⟨0, _⟩ => exact (congrArg (fun z : EReal => Ideal.div (Ideal.exp (z - u)) _) e0).trans (Softmax.softmax_fst u v)
  | ⟨1, _⟩ => exact (congrArg (fun z : EReal => Ideal.div (Ideal.exp (z - u)) _) e1).trans (Softmax.softmax_snd u v)

end Cert.RefValue

end
-- ==== Proof.KernelValue.lean ====
/-
  THE KERNEL'S RESULT ARRAYS. Point `t` of the grid reads rows `1024 t` to `1024 t + 1023` of the activations, the whole
  transposed weights and the whole bias, so its block's logits are the reference's at those rows (`row_eq`); where every
  logit is real, its two stores are those rows of the reference's two results (`flushed3_eq`, `flushed4_eq`), and the 32
  blocks fill both arrays (`final3`, `final4`).
-/
module

public import proofs.«01_k».proof.Proof.Block
public import proofs.«01_k».proof.Proof.RefValue

@[expose] public section

set_option maxRecDepth 16384

noncomputable section

namespace Cert.KernelIdeal.RefValue

open Cert.KernelIdeal Cert.KernelIdeal.Gen Idealize.ShloMosaic Idealize.ShloMosaic.TcCoe Idealize.SL.Sem
open Cert.ReferenceIdeal.Read (val_main_indices val_main_v15)

variable (m : (ℓ : Loc nD τ sig) → Buf (Elt Ideal) ℓ) (c : Dev nD)

/-- The activations device `c` was given. -/
abbrev X : FVec Ideal S32768x4096 .f32 := m ((c : Thread nD τ).loc main_arg0)
/-- Its weights. -/
abbrev W : FVec Ideal S64x4096 .f32 := m ((c : Thread nD τ).loc main_arg1)
/-- Its bias. -/
abbrev B : FVec Ideal S64 .f32 := m ((c : Thread nD τ).loc main_arg2)

/-- The region finds the weights transposed … -/
theorem V_main_v0 : V m c main_v0 = transpose S4096x64 [1, 0] (W m c) transposes_S64x4096_S4096x64_1_0 := by
  unfold V hostOps0
  after_results

/-- … and the bias as one row. -/
theorem V_main_v1 : V m c main_v1 = shapeCast S1x64 (B m c) shapeCasts_S64_S1x64 := by
  unfold V hostOps0
  after_results
  rfl

/-- Row `r` of point `t`'s block is this row of the array. -/
abbrev rowAt (t : Fin cfg0.N) (r : Fin 1024) : Fin 32768 :=
  ⟨t.val * 1024 + r.val, by have h1 : t.val < 32 := N_0 ▸ t.isLt; have := r.isLt; omega⟩

/-- The activations' block at point `t` is block `t` of the rows. -/
theorem index0 : ∀ t : Fin cfg0.N, win0_0.index t 0 = t.val ∧ win0_0.index t 1 = 0 :=
  (by decide +kernel : ∀ t : Fin grid0.N, win0_0.index t 0 = t.val ∧ win0_0.index t 1 = 0)

/-- The weights' block is the whole array at every point. -/
theorem index1 : ∀ t : Fin cfg0.N, win0_1.index t 0 = 0 ∧ win0_1.index t 1 = 0 :=
  (by decide +kernel : ∀ t : Fin grid0.N, win0_1.index t 0 = 0 ∧ win0_1.index t 1 = 0)

/-- The bias's block is the whole array at every point. -/
theorem index2 : ∀ t : Fin cfg0.N, win0_2.index t 0 = 0 ∧ win0_2.index t 1 = 0 :=
  (by decide +kernel : ∀ t : Fin grid0.N, win0_2.index t 0 = 0 ∧ win0_2.index t 1 = 0)

/-- The expert numbers' block at point `t` is block `t` of the rows. -/
theorem index3 : ∀ t : Fin cfg0.N, win0_3.index t 0 = t.val ∧ win0_3.index t 1 = 0 :=
  (by decide +kernel : ∀ t : Fin grid0.N, win0_3.index t 0 = t.val ∧ win0_3.index t 1 = 0)

/-- The scores' block at point `t` is block `t` of the rows. -/
theorem index4 : ∀ t : Fin cfg0.N, win0_4.index t 0 = t.val ∧ win0_4.index t 1 = 0 :=
  (by decide +kernel : ∀ t : Fin grid0.N, win0_4.index t 0 = t.val ∧ win0_4.index t 1 = 0)

/-- Point `t`'s block of the activations. -/
theorem iblk0_apply (t : Fin cfg0.N) (r : Fin 1024) (d : Fin 4096) :
    (iblk m c 0 t : Vec Ideal S1024x4096 .f32) (ix2 r d) = X m c (ix2 (rowAt t r) d) := by
  have hV : V m c (Pipeline.arrRef spec0 0) = X m c := V_main_arg0 m c
  unfold iblk
  rw [hV]
  refine congrArg (X m c) (funext fun a => Fin.ext ?_)
  match a with
  | ⟨0, _⟩ =>
    show win0_0.index t 0 * 1024 + 1 * r.val = t.val * 1024 + r.val
    rw [(index0 t).1]; omega
  | ⟨1, _⟩ =>
    show win0_0.index t 1 * 4096 + 1 * d.val = d.val
    rw [(index0 t).2]; omega

/-- Point `t`'s block of the transposed weights: all of it. -/
theorem iblk1_apply (t : Fin cfg0.N) (d : Fin 4096) (k : Fin 64) :
    (iblk m c 1 t : Vec Ideal S4096x64 .f32) (ix2 d k) = W m c (ix2 k d) := by
  have hV : V m c (Pipeline.arrRef spec0 1) = transpose S4096x64 [1, 0] (W m c) transposes_S64x4096_S4096x64_1_0 := V_main_v0 m c
  have e : transpose S4096x64 [1, 0] (W m c) transposes_S64x4096_S4096x64_1_0 (ix2 d k) = W m c (ix2 k d) := by
    generalize W m c = w
    pointwise
  rw [← e]
  unfold iblk
  rw [hV]
  refine congrArg (transpose S4096x64 [1, 0] (W m c) transposes_S64x4096_S4096x64_1_0) (funext fun a => Fin.ext ?_)
  match a with
  | ⟨0, _⟩ =>
    show win0_1.index t 0 * 4096 + 1 * d.val = d.val
    rw [(index1 t).1]; omega
  | ⟨1, _⟩ =>
    show win0_1.index t 1 * 64 + 1 * k.val = k.val
    rw [(index1 t).2]; omega

/-- Point `t`'s block of the bias: all of it. -/
theorem iblk2_apply (t : Fin cfg0.N) (k : Fin 64) :
    (iblk m c 2 t : Vec Ideal S1x64 .f32) (ix2 0 k) = B m c (ix1 k) := by
  have hV : V m c (Pipeline.arrRef spec0 2) = shapeCast S1x64 (B m c) shapeCasts_S64_S1x64 := V_main_v1 m c
  have e : shapeCast S1x64 (B m c) shapeCasts_S64_S1x64 (ix2 0 k) = B m c (ix1 k) := by
    generalize B m c = b
    pointwise
  rw [← e]
  unfold iblk
  rw [hV]
  refine congrArg (shapeCast S1x64 (B m c) shapeCasts_S64_S1x64) (funext fun a => Fin.ext ?_)
  match a with
  | ⟨0, _⟩ =>
    show win0_2.index t 0 * 1 + 1 * 0 = 0
    rw [(index2 t).1]
  | ⟨1, _⟩ =>
    show win0_2.index t 1 * 64 + 1 * k.val = k.val
    rw [(index2 t).2]; omega

/-- The block's logits are the reference's at the block's rows. -/
theorem row_eq (t : Fin cfg0.N) (r : Fin 1024) :
    Block.row (iblk m c 0 t) (iblk m c 1 t) (iblk m c 2 t) r = RefValue.logits (X m c) (W m c) (B m c) (rowAt t r) := by
  funext k
  unfold Block.row RefValue.logits
  rw [iblk2_apply m c t k]
  refine congrArg (· + _) (Finset.sum_congr rfl fun d _ => ?_)
  rw [iblk0_apply, iblk1_apply]

/-- The origin of a block of two axes. -/
theorem hz : (![0, 0] : Fin 2 → Nat) = fun _ => 0 := funext fun a => by fin_cases a <;> rfl

/-- What the body stores of point `t`'s rows: the expert numbers … -/
theorem out3_eq (t : Fin cfg0.N) : out0_3 (iblk m c 0 t) (iblk m c 1 t) (iblk m c 2 t)
    = k0_pay6 (F := Ideal) (iblk m c 0 t) (iblk m c 1 t) (iblk m c 2 t) := by
  unfold out0_3
  rw [View.canon_unit_zero hz, View.ld_unit_zero hz, View.ld_unit_zero hz, View.ld_unit_zero hz]

/-- … and the scores. -/
theorem out4_eq (t : Fin cfg0.N) : out0_4 (iblk m c 0 t) (iblk m c 1 t) (iblk m c 2 t)
    = k0_pay7 (F := Ideal) (iblk m c 0 t) (iblk m c 1 t) (iblk m c 2 t) := by
  unfold out0_4
  rw [View.canon_unit_zero hz, View.ld_unit_zero hz, View.ld_unit_zero hz, View.ld_unit_zero hz]

/-- Index `(r, k)` of point `t`'s block of the expert numbers is this index of the array. -/
theorem idx3 (t : Fin cfg0.N) (r : Fin 1024) (k : Fin 2) :
    ((win0_3.blk t).view.emb (ix2 r k) : S32768x2.Idx) = ix2 (rowAt t r) k := funext fun a => Fin.ext (by
  match a with
  | ⟨0, _⟩ =>
    show win0_3.index t 0 * 1024 + 1 * r.val = t.val * 1024 + r.val
    rw [(index3 t).1]; omega
  | ⟨1, _⟩ =>
    show win0_3.index t 1 * 2 + 1 * k.val = k.val
    rw [(index3 t).2]; omega)

/-- Index `(r, k)` of point `t`'s block of the scores is this index of the array. -/
theorem idx4 (t : Fin cfg0.N) (r : Fin 1024) (k : Fin 2) :
    ((win0_4.blk t).view.emb (ix2 r k) : S32768x2.Idx) = ix2 (rowAt t r) k := funext fun a => Fin.ext (by
  match a with
  | ⟨0, _⟩ =>
    show win0_4.index t 0 * 1024 + 1 * r.val = t.val * 1024 + r.val
    rw [(index4 t).1]; omega
  | ⟨1, _⟩ =>
    show win0_4.index t 1 * 2 + 1 * k.val = k.val
    rw [(index4 t).2]; omega)

section real

variable (hreal : ∀ r k, ∃ u : ℝ, RefValue.logits (X m c) (W m c) (B m c) r k = u)
include hreal

/-- On real logits point `t` writes back block `t` of the reference's expert numbers, -/
theorem flushed3_eq (t : Fin cfg0.N) :
    (dats m 0 c).flushed 3 t = (win0_3.blk t).view.read (Elt Ideal) (val_main_indices (F := Ideal) (X m c) (W m c) (B m c)) := by
  rw [Value.flushed3, out3_eq]
  funext (y : S1024x2.Idx)
  obtain ⟨r, k, rfl⟩ : ∃ (r : Fin 1024) (k : Fin 2), y = ix2 r k := ⟨_, _, eq_ix2 y⟩
  obtain ⟨p, q, h⟩ := Row.exists_topTwo (RefValue.logits (X m c) (W m c) (B m c) (rowAt t r))
  obtain ⟨u, hu⟩ := hreal (rowAt t r) q
  have h' := h
  rw [← row_eq] at h'
  have hb : Block.row (iblk m c 0 t) (iblk m c 1 t) (iblk m c 2 t) r q ≠ ⊥ := by
    rw [row_eq, hu]
    exact EReal.coe_ne_bot u
  refine (Block.pay6_apply h' hb k).trans ((RefValue.indices_apply h k).symm.trans ?_)
  exact congrArg (val_main_indices (F := Ideal) (X m c) (W m c) (B m c)) (idx3 t r k).symm

/-- and block `t` of its scores. -/
theorem flushed4_eq (t : Fin cfg0.N) :
    (dats m 0 c).flushed 4 t = (win0_4.blk t).view.read (Elt Ideal) (val_main_v15 (F := Ideal) (X m c) (W m c) (B m c)) := by
  rw [Value.flushed4, out4_eq]
  funext (y : S1024x2.Idx)
  obtain ⟨r, k, rfl⟩ : ∃ (r : Fin 1024) (k : Fin 2), y = ix2 r k := ⟨_, _, eq_ix2 y⟩
  obtain ⟨p, q, h⟩ := Row.exists_topTwo (RefValue.logits (X m c) (W m c) (B m c) (rowAt t r))
  obtain ⟨u, hu⟩ := hreal (rowAt t r) p
  obtain ⟨v, hv⟩ := hreal (rowAt t r) q
  have h' := h
  rw [← row_eq] at h'
  refine (Block.pay7_apply h' k).trans ?_
  rw [row_eq]
  refine (RefValue.scores_apply h u v hu hv k).symm.trans ?_
  exact congrArg (val_main_v15 (F := Ideal) (X m c) (W m c) (B m c)) (idx4 t r k).symm

end real

/-- The point whose block holds row `i 0`. -/
abbrev pointOf (i : S32768x2.Idx) : Fin cfg0.N :=
  ⟨(i 0).val / 1024, by have h : (i 0).val < 32768 := (i 0).isLt; rw [show cfg0.N = 32 from N_0]; omega⟩

/-- Its row of that block. -/
abbrev offOf (i : S32768x2.Idx) : Fin 1024 := ⟨(i 0).val % 1024, Nat.mod_lt _ (by decide)⟩

/-- An index of either array is this row of this point's block. -/
theorem ix2_rowAt (i : S32768x2.Idx) : (ix2 (rowAt (pointOf i) (offOf i)) (i 1) : S32768x2.Idx) = i := funext fun a => Fin.ext (by
  match a with
  | ⟨0, _⟩ => exact Nat.div_add_mod' (i 0).val 1024
  | ⟨1, _⟩ => rfl)

/-- The blocks fill the array of expert numbers, -/
theorem cover3 (i : S32768x2.Idx) : ∃ t : Fin cfg0.N, (cfg0.win 3).flush t = true ∧ i ∈ ((cfg0.win 3).blk t).view.set := by
  refine ⟨pointOf i, flush0_3 _, ?_⟩
  exact Finset.mem_map.mpr ⟨ix2 (offOf i) (i 1), Finset.mem_univ _, (idx3 _ _ _).trans (ix2_rowAt i)⟩

/-- and the array of scores. -/
theorem cover4 (i : S32768x2.Idx) : ∃ t : Fin cfg0.N, (cfg0.win 4).flush t = true ∧ i ∈ ((cfg0.win 4).blk t).view.set := by
  refine ⟨pointOf i, flush0_4 _, ?_⟩
  exact Finset.mem_map.mpr ⟨ix2 (offOf i) (i 1), Finset.mem_univ _, (idx4 _ _ _).trans (ix2_rowAt i)⟩

/-- So on real logits the kernel's arrays end at the reference's two results of the same arguments. -/
theorem final3 (hreal : ∀ r k, ∃ u : ℝ, RefValue.logits (X m c) (W m c) (B m c) r k = u) :
    (dats m 0 c).arrAt 3 cfg0.N = val_main_indices (F := Ideal) (X m c) (W m c) (B m c) :=
  (dats m 0 c).arrAt_eq_of_cover 3 (val_main_indices (F := Ideal) (X m c) (W m c) (B m c))
    (fun t _ => flushed3_eq m c hreal t) cover3

/-- The array of scores ends at the reference's. -/
theorem final4 (hreal : ∀ r k, ∃ u : ℝ, RefValue.logits (X m c) (W m c) (B m c) r k = u) :
    (dats m 0 c).arrAt 4 cfg0.N = val_main_v15 (F := Ideal) (X m c) (W m c) (B m c) :=
  (dats m 0 c).arrAt_eq_of_cover 4 (val_main_v15 (F := Ideal) (X m c) (W m c) (B m c))
    (fun t _ => flushed4_eq m c hreal t) cover4

/-- The kernel's run from a memory whose logits are real: both results are the reference's, the arguments are kept. -/
theorem run (ρ : Dev nD → PrngReg) (hreal : ∀ c r k, ∃ u : ℝ, RefValue.logits (X m c) (W m c) (B m c) r k = u) :
    θ_run defs (onTc (τ := τ) (main (F := Ideal))) ⟨m, fun _ => 0, ρ⟩ fun r => ∀ c : Dev nD,
      r.2.mem ((c : Thread nD τ).loc main_v2_0) = val_main_indices (F := Ideal) (X m c) (W m c) (B m c)
      ∧ r.2.mem ((c : Thread nD τ).loc main_v2_1) = val_main_v15 (F := Ideal) (X m c) (W m c) (B m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c (hreal c)), (h c).2.1.trans (final4 m c (hreal c)), (h c).2.2⟩)
    (Value.run_blocks m ρ)

end Cert.KernelIdeal.RefValue

end
-- ==== Proof.Finite.lean ====
/-
  THE PRECONDITION, read back: every entry of the three arguments is below `⊤` in absolute value, so it is a real number, and
  so is every logit.
-/
module

public import proofs.«01_k».proof.Pre_finite_inputs
public import Idealize.ShloMosaic.Lib.ReduceAll
public import proofs.«01_k».proof.Proof.RefValue

@[expose] public section

set_option maxRecDepth 16384

noncomputable section

namespace Cert.Finite

open Idealize.ShloMosaic Cert.Pre_finite_inputs

/-- The side conditions of the precondition's operations. -/
instance facts : Cert.Pre_finite_inputs.Facts where
  bcast_S_S32768x4096 := by decide
  reducesTo_S32768x4096_S_d0_1 := by decide
  h_S_ := by decide
  bcast_S_S64x4096 := by decide
  reducesTo_S64x4096_S_d0_1 := by decide
  bcast_S_S64 := by decide
  reducesTo_S64_S_d0 := by decide

instance : Subsingleton S_.Idx := ⟨fun _ _ => funext fun a => a.elim0⟩

/-- The word `0x7F800000` is `⊤`. -/
theorem posInf_eq : Ideal.ofBits FTy.f32 0x7F800000#32 = (⊤ : EReal) := by
  simp [Ideal.ofBits, Ideal.ieee]

/-- A number below `⊤` in absolute value is real. -/
theorem real_of_abs_lt (z : EReal)
    (h : FloatOps.cmpf (F := Ideal) (φ := .f32) .olt (max z (-z)) (Ideal.ofBits FTy.f32 0x7F800000#32) = 1#1) : ∃ u : ℝ, z = u := by
  rw [posInf_eq] at h
  have h' : max z (-z) < ⊤ := by
    by_contra hn
    have : BitVec.ofBool (decide (max z (-z) < ⊤)) = 1#1 := h
    rw [decide_eq_false hn] at this
    exact absurd this (by decide)
  induction z with
  | bot => exact absurd h' (by simp)
  | top => exact absurd h' (by simp)
  | coe u => exact ⟨u, rfl⟩

variable {x : FVec Ideal S32768x4096 .f32} {W : FVec Ideal S64x4096 .f32} {b : FVec Ideal S64 .f32}

/-- Every entry of the activations is real. -/
theorem real_arg0 (h : (fn (F := Ideal) x W b).1 = fun _ => 1#1) (i : S32768x4096.Idx) : ∃ u : ℝ, x i = u := by
  have e := congrFun h fun a => a.elim0
  simp only [fn] at e
  have e' := Host.reduce_andi_all _ _ _ _ _ e i
  exact real_of_abs_lt (x i) e'

/-- Every entry of the weights is real. -/
theorem real_arg1 (h : (fn (F := Ideal) x W b).2.1 = fun _ => 1#1) (i : S64x4096.Idx) : ∃ u : ℝ, W i = u := by
  have e := congrFun h fun a => a.elim0
  simp only [fn] at e
  have e' := Host.reduce_andi_all _ _ _ _ _ e i
  exact real_of_abs_lt (W i) e'

/-- Every entry of the bias is real. -/
theorem real_arg2 (h : (fn (F := Ideal) x W b).2.2 = fun _ => 1#1) (i : S64.Idx) : ∃ u : ℝ, b i = u := by
  have e := congrFun h fun a => a.elim0
  simp only [fn] at e
  have e' := Host.reduce_andi_all _ _ _ _ _ e i
  exact real_of_abs_lt (b i) e'

/-- A finite sum of real numbers is real. -/
theorem real_sum {ι : Type} (S : Finset ι) (f : ι → EReal) (h : ∀ i, ∃ u : ℝ, f i = u) : ∃ u : ℝ, ∑ i ∈ S, f i = u := by
  classical
  induction S using Finset.induction with
  | empty => exact ⟨0, by simp⟩
  | insert a S ha ih =>
    obtain ⟨u, hu⟩ := h a
    obtain ⟨v, hv⟩ := ih
    exact ⟨u + v, by rw [Finset.sum_insert ha, hu, hv, EReal.coe_add]⟩

/-- Every logit is real. -/
theorem real_logits (hx : ∀ i, ∃ u : ℝ, x i = u) (hW : ∀ i, ∃ u : ℝ, W i = u) (hb : ∀ i, ∃ u : ℝ, b i = u)
    (r : Fin 32768) (k : Fin 64) : ∃ u : ℝ, RefValue.logits x W b r k = u := by
  obtain ⟨s, hs⟩ := real_sum Finset.univ (fun d : Fin 4096 => x (ix2 r d) * W (ix2 k d)) fun d => by
    obtain ⟨u, hu⟩ := hx (ix2 r d)
    obtain ⟨v, hv⟩ := hW (ix2 k d)
    exact ⟨u * v, by rw [hu, hv, EReal.coe_mul]⟩
  obtain ⟨v, hv⟩ := hb (ix1 k)
  exact ⟨s + v, by unfold RefValue.logits; rw [hs, hv, EReal.coe_add]⟩

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference runs, keeps its arguments and leaves every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2.2, sem_eq_zero_of_no_sems (by decide) r.2⟩)
    (Cert.ReferenceIdeal.Value.run (F := Ideal) m ρ)

/-- From finite arguments both programs end with the reference's two results of the kernel's arguments. -/
theorem algebraic : Cert.algebraic_KernelIdeal_ReferenceIdeal_pre_finite_inputs := by
  intro m ρ m' ρ' hpre hargs
  have hreal : ∀ c r k, ∃ u : ℝ, Cert.RefValue.logits (Cert.KernelIdeal.RefValue.X m c) (Cert.KernelIdeal.RefValue.W m c)
      (Cert.KernelIdeal.RefValue.B m c) r k = u := fun c =>
    Cert.Finite.real_logits (Cert.Finite.real_arg0 (hpre c).1) (Cert.Finite.real_arg1 (hpre c).2.1)
      (Cert.Finite.real_arg2 (hpre c).2.2)
  refine ⟨_, _, Cert.KernelIdeal.RefValue.run m ρ hreal, ?_⟩
  refine (θ_run Cert.ReferenceIdeal.defs _ _).mono (fun r h c => ⟨?_, ?_, (h c).2.2⟩)
    (Cert.ReferenceIdeal.Value.run (F := Ideal) m' ρ')
  · refine (h c).1.trans ((Cert.ReferenceIdeal.Read.val_main_indices_eq _ _ _).trans ?_)
    rw [(hargs c).1, (hargs c).2.1, (hargs c).2.2]
  · refine (h c).2.1.trans ((Cert.ReferenceIdeal.Read.val_main_v15_eq _ _ _).trans ?_)
    rw [(hargs c).1, (hargs c).2.1, (hargs c).2.2]

theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, algebraic⟩

end Cert.Proof

end
